-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S192x1x9216 : Shape := ⟨3, ![192, 1, 9216]⟩
abbrev S4608x2304 : Shape := ⟨2, ![4608, 2304]⟩
abbrev S72x2304 : Shape := ⟨2, ![72, 2304]⟩
abbrev S192x9216 : Shape := ⟨2, ![192, 9216]⟩
abbrev S192x2304 : Shape := ⟨2, ![192, 2304]⟩
abbrev S4608x256 : Shape := ⟨2, ![4608, 256]⟩
abbrev S72x256 : Shape := ⟨2, ![72, 256]⟩
abbrev S192x256 : Shape := ⟨2, ![192, 256]⟩
abbrev S64x256 : Shape := ⟨2, ![64, 256]⟩
abbrev S1x256 : Shape := ⟨2, ![1, 256]⟩
abbrev S64x1x256 : Shape := ⟨3, ![64, 1, 256]⟩
abbrev S64x2x256 : Shape := ⟨3, ![64, 2, 256]⟩
abbrev S128x256 : Shape := ⟨2, ![128, 256]⟩
abbrev S256x256 : Shape := ⟨2, ![256, 256]⟩

abbrev nBuf : Space → Nat
  | .hbm => 7
  | .vmem => 11
  | .smem => 0
  | _ => 0

abbrev bufTy : (tb : Table) → Fin (tcTables nBuf tb) → BufTy
  | .hbm, ⟨0, _⟩ => ⟨S192x1x9216, .bf16⟩
  | .hbm, ⟨1, _⟩ => ⟨S4608x2304, .i8⟩
  | .hbm, ⟨2, _⟩ => ⟨S72x2304, .bf16⟩
  | .hbm, ⟨3, _⟩ => ⟨S4608x2304, .i8⟩
  | .hbm, ⟨4, _⟩ => ⟨S72x2304, .bf16⟩
  | .hbm, ⟨5, _⟩ => ⟨S192x9216, .bf16⟩
  | .hbm, ⟨6, _⟩ => ⟨S192x2304, .bf16⟩
  | .local _ .vmem, ⟨0, _⟩ => ⟨S192x9216, .bf16⟩
  | .local _ .vmem, ⟨1, _⟩ => ⟨S4608x256, .i8⟩
  | .local _ .vmem, ⟨2, _⟩ => ⟨S4608x256, .i8⟩
  | .local _ .vmem, ⟨3, _⟩ => ⟨S72x256, .bf16⟩
  | .local _ .vmem, ⟨4, _⟩ => ⟨S72x256, .bf16⟩
  | .local _ .vmem, ⟨5, _⟩ => ⟨S4608x256, .i8⟩
  | .local _ .vmem, ⟨6, _⟩ => ⟨S4608x256, .i8⟩
  | .local _ .vmem, ⟨7, _⟩ => ⟨S72x256, .bf16⟩
  | .local _ .vmem, ⟨8, _⟩ => ⟨S72x256, .bf16⟩
  | .local _ .vmem, ⟨9, _⟩ => ⟨S192x256, .bf16⟩
  | .local _ .vmem, ⟨10, _⟩ => ⟨S192x256, .bf16⟩
  | _, _ => ⟨S192x1x9216, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S192x9216 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4608x256 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S72x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4608x256 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S72x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S192x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S192x1x9216 : Shape := ⟨3, ![192, 1, 9216]⟩
abbrev S4608x2304 : Shape := ⟨2, ![4608, 2304]⟩
abbrev S72x2304 : Shape := ⟨2, ![72, 2304]⟩
abbrev S192x4608x2 : Shape := ⟨3, ![192, 4608, 2]⟩
abbrev S192x2x4608 : Shape := ⟨3, ![192, 2, 4608]⟩
abbrev S_ : Shape := ⟨0, ![]⟩
abbrev S1x4608x2304 : Shape := ⟨3, ![1, 4608, 2304]⟩
abbrev S2x4608x2304 : Shape := ⟨3, ![2, 4608, 2304]⟩
abbrev S2x72x64x2304 : Shape := ⟨4, ![2, 72, 64, 2304]⟩
abbrev S1x72x1x2304 : Shape := ⟨4, ![1, 72, 1, 2304]⟩
abbrev S192x2304 : Shape := ⟨2, ![192, 2304]⟩

abbrev nBuf : Space → Nat
  | .hbm => 58
  | .vmem => 0
  | .smem => 0
  | _ => 0

abbrev bufTy : (tb : Table) → Fin (tcTables nBuf tb) → BufTy
  | .hbm, ⟨0, _⟩ => ⟨S192x1x9216, .bf16⟩
  | .hbm, ⟨1, _⟩ => ⟨S4608x2304, .i8⟩
  | .hbm, ⟨2, _⟩ => ⟨S72x2304, .bf16⟩
  | .hbm, ⟨3, _⟩ => ⟨S4608x2304, .i8⟩
  | .hbm, ⟨4, _⟩ => ⟨S72x2304, .bf16⟩
  | .hbm, ⟨5, _⟩ => ⟨S192x4608x2, .bf16⟩
  | .hbm, ⟨6, _⟩ => ⟨S192x2x4608, .bf16⟩
  | .hbm, ⟨7, _⟩ => ⟨S4608x2304, .i32⟩
  | .hbm, ⟨8, _⟩ => ⟨S_, .i32⟩
  | .hbm, ⟨9, _⟩ => ⟨S4608x2304, .i32⟩
  | .hbm, ⟨10, _⟩ => ⟨S4608x2304, .i32⟩
  | .hbm, ⟨11, _⟩ => ⟨S_, .i32⟩
  | .hbm, ⟨12, _⟩ => ⟨S4608x2304, .i32⟩
  | .hbm, ⟨13, _⟩ => ⟨S4608x2304, .i32⟩
  | .hbm, ⟨14, _⟩ => ⟨S1x4608x2304, .i32⟩
  | .hbm, ⟨15, _⟩ => ⟨S1x4608x2304, .i32⟩
  | .hbm, ⟨16, _⟩ => ⟨S2x4608x2304, .i32⟩
  | .hbm, ⟨17, _⟩ => ⟨S2x4608x2304, .bf16⟩
  | .hbm, ⟨18, _⟩ => ⟨S_, .bf16⟩
  | .hbm, ⟨19, _⟩ => ⟨S2x4608x2304, .bf16⟩
  | .hbm, ⟨20, _⟩ => ⟨S2x4608x2304, .bf16⟩
  | .hbm, ⟨21, _⟩ => ⟨S2x72x64x2304, .bf16⟩
  | .hbm, ⟨22, _⟩ => ⟨S1x72x1x2304, .bf16⟩
  | .hbm, ⟨23, _⟩ => ⟨S2x72x64x2304, .bf16⟩
  | .hbm, ⟨24, _⟩ => ⟨S2x72x64x2304, .bf16⟩
  | .hbm, ⟨25, _⟩ => ⟨S2x4608x2304, .bf16⟩
  | .hbm, ⟨26, _⟩ => ⟨S192x2304, .f32⟩
  | .hbm, ⟨27, _⟩ => ⟨S4608x2304, .i32⟩
  | .hbm, ⟨28, _⟩ => ⟨S_, .i32⟩
  | .hbm, ⟨29, _⟩ => ⟨S4608x2304, .i32⟩
  | .hbm, ⟨30, _⟩ => ⟨S4608x2304, .i32⟩
  | .hbm, ⟨31, _⟩ => ⟨S_, .i32⟩
  | .hbm, ⟨32, _⟩ => ⟨S4608x2304, .i32⟩
  | .hbm, ⟨33, _⟩ => ⟨S4608x2304, .i32⟩
  | .hbm, ⟨34, _⟩ => ⟨S1x4608x2304, .i32⟩
  | .hbm, ⟨35, _⟩ => ⟨S1x4608x2304, .i32⟩
  | .hbm, ⟨36, _⟩ => ⟨S2x4608x2304, .i32⟩
  | .hbm, ⟨37, _⟩ => ⟨S2x4608x2304, .bf16⟩
  | .hbm, ⟨38, _⟩ => ⟨S_, .bf16⟩
  | .hbm, ⟨39, _⟩ => ⟨S2x4608x2304, .bf16⟩
  | .hbm, ⟨40, _⟩ => ⟨S2x4608x2304, .bf16⟩
  | .hbm, ⟨41, _⟩ => ⟨S2x72x64x2304, .bf16⟩
  | .hbm, ⟨42, _⟩ => ⟨S1x72x1x2304, .bf16⟩
  | .hbm, ⟨43, _⟩ => ⟨S2x72x64x2304, .bf16⟩
  | .hbm, ⟨44, _⟩ => ⟨S2x72x64x2304, .bf16⟩
  | .hbm, ⟨45, _⟩ => ⟨S2x4608x2304, .bf16⟩
  | .hbm, ⟨46, _⟩ => ⟨S192x2304, .f32⟩
  | .hbm, ⟨47, _⟩ => ⟨S192x2304, .f32⟩
  | .hbm, ⟨48, _⟩ => ⟨S192x2304, .f32⟩
  | .hbm, ⟨49, _⟩ => ⟨S_, .f32⟩
  | .hbm, ⟨50, _⟩ => ⟨S192x2304, .f32⟩
  | .hbm, ⟨51, _⟩ => ⟨S192x2304, .f32⟩
  | .hbm, ⟨52, _⟩ => ⟨S_, .f32⟩
  | .hbm, ⟨53, _⟩ => ⟨S192x2304, .f32⟩
  | .hbm, ⟨54, _⟩ => ⟨S192x2304, .f32⟩
  | .hbm, ⟨55, _⟩ => ⟨S192x2304, .f32⟩
  | .hbm, ⟨56, _⟩ => ⟨S192x2304, .f32⟩
  | .hbm, ⟨57, _⟩ => ⟨S192x2304, .bf16⟩
  | _, _ => ⟨S192x1x9216, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c_1 : Ref sig .tc := ⟨.hbm, 28, rfl⟩
abbrev main_v20 : Ref sig .tc := ⟨.hbm, 29, rfl⟩
abbrev main_v21 : Ref sig .tc := ⟨.hbm, 30, rfl⟩
abbrev main_c_2 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_3 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_call0_v0 : Ref sig .tc := ⟨.hbm, 47, rfl⟩
abbrev main_call0_v1 : Ref sig .tc := ⟨.hbm, 48, rfl⟩
abbrev main_call0_cst : Ref sig .tc := ⟨.hbm, 49, rfl⟩
abbrev main_call0_v2 : Ref sig .tc := ⟨.hbm, 50, rfl⟩
abbrev main_call0_v3 : Ref sig .tc := ⟨.hbm, 51, rfl⟩
abbrev main_call0_cst_0 : Ref sig .tc := ⟨.hbm, 52, rfl⟩
abbrev main_call0_v4 : Ref sig .tc := ⟨.hbm, 53, rfl⟩
abbrev main_call0_v5 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩

abbrev nD : Nat := 1
abbrev τ : Topo := Topo.v7x

variable {F : FTy → Type} [FloatOps F]
-- ==== Proof.Block.lean ====
/-
  What one grid point of the kernel computes, as a recursion over the 36 pairs of quantisation groups.

  The kernel's body is printed unrolled: 36 steps, each of which loads 256 columns of the activations, unpacks and
  scales two groups of 128 weights of both projections, and adds a 192×256×256 product to each of two accumulators.
  Here one step is stated once (`step`, `pair`), the accumulators are its iteration (`acc`), and `out_eq` says
  that the body's result is `silu gate * up` of the two accumulators after 36 steps.
-/
module

public import proofs.«01_k».proof.Proof.Gen.KernelIdeal.Frame

@[expose] public section

noncomputable section

namespace Cert.KernelIdeal.Block

open Cert.KernelIdeal Cert.KernelIdeal.Gen Idealize.ShloMosaic

variable {F : FTy → Type} [FloatOps F]

/-- The activations' columns `256 n … 256 n + 255`. -/
abbrev rX (n : ℕ) (h : n < 36) : Rect S192x9216 :=
  Rect.unit (s := S192x9216) ![0, 256 * n] S192x256.size (by
    intro a; match a with
    | ⟨0, _⟩ => show 0 + 192 ≤ 192; omega
    | ⟨1, _⟩ => show 256 * n + 256 ≤ 9216; omega)

/-- Group `g`'s 64 rows of packed weights. -/
abbrev rW (g : ℕ) (h : g < 72) : Rect S4608x256 :=
  Rect.unit (s := S4608x256) ![64 * g, 0] S64x256.size (by
    intro a; match a with
    | ⟨0, _⟩ => show 64 * g + 64 ≤ 4608; omega
    | ⟨1, _⟩ => show 0 + 256 ≤ 256; omega)

/-- Group `g`'s row of scales. -/
abbrev rS (g : ℕ) (h : g < 72) : Rect S72x256 :=
  Rect.unit (s := S72x256) ![g, 0] S1x256.size (by
    intro a; match a with
    | ⟨0, _⟩ => show g + 1 ≤ 72; omega
    | ⟨1, _⟩ => show 0 + 256 ≤ 256; omega)

/-- The 256 weight rows of step `n`: groups `2 n` and `2 n + 1`, unpacked and scaled (`k0_pay5`), one above the other. -/
def pair (w : Vec F S4608x256 .i8) (s : Vec F S72x256 .bf16) (n : ℕ) (h : n < 36) : FVec F S256x256 .bf16 :=
  concatenate S256x256 0
    [⟨S128x256, k0_pay5 (View.ld w (rW (2 * n) (by omega))) (View.ld s (rS (2 * n) (by omega)))⟩,
      ⟨S128x256, k0_pay5 (View.ld w (rW (2 * n + 1) (by omega))) (View.ld s (rS (2 * n + 1) (by omega)))⟩]
    concatenates_S128x256_S128x256_S256x256_d0

/-- One step: 256 columns of the activations times 256 rows of the weights, added to the accumulator. -/
def step (a : FVec F S192x256 .f32) (x : Vec F S192x256 .bf16) (w : FVec F S256x256 .bf16) : FVec F S192x256 .f32 :=
  addf a (matmul dot_S192x256_S256x256_S192x256_1_0_0_1_n_n none
    (shapeCast S192x256 x shapeCasts_S192x256_S192x256 : FVec F S192x256 .bf16) w (constant S192x256 .f32 0x00000000#32))

/-- The accumulator of one projection after `n` steps. -/
def acc (x : Vec F S192x9216 .bf16) (w : Vec F S4608x256 .i8) (s : Vec F S72x256 .bf16) :
    (n : ℕ) → n ≤ 36 → FVec F S192x256 .f32
  | 0, _ => broadcast S192x256 (Scalar.ofBits .f32 0x00000000#32)
  | n + 1, h => step (acc x w s n (by omega)) (View.ld x (rX n (by omega))) (pair w s n (by omega))

/-- The block written at a grid point, from the two finished accumulators. -/
def act (g u : FVec F S192x256 .f32) : FVec F S192x256 .bf16 :=
  truncf .bf16 (mulf (mulf g (logistic g)) u) bitsLt_bf16_f32

/-- The unrolled body, as it is printed, is the 36-step recursion: its one store's payload is `act` of the two accumulators. -/
theorem out_eq (x : Vec F S192x9216 .bf16) (wg : Vec F S4608x256 .i8) (sg : Vec F S72x256 .bf16)
    (wu : Vec F S4608x256 .i8) (su : Vec F S72x256 .bf16) :
    out0_5 x wg sg wu su
      = View.canon [⟨r0_180, act (acc x wg sg 36 le_rfl) (acc x wu su 36 le_rfl)⟩] := by
  rfl

end Cert.KernelIdeal.Block

end
-- ==== Proof.Weights.lean ====
/-
  The weight matrix both programs multiply by, element by element, and what one grid point of the kernel makes of its
  blocks.

  Byte `r` of a column of packed weights holds row `2 r` of the weight matrix in its low four bits and row `2 r + 1` in
  its high four bits, each as an unsigned number less 8; 128 consecutive rows share one scale. `wt` says this once, for
  any number of columns, so that a block of the kernel and the reference's whole matrix are the same function.
-/
module

public import proofs.«01_k».proof.Proof.Block
public import Idealize.ShloMosaic.Lib.MatmulPlain
public import Idealize.ShloMosaic.Lib.ValueIdx
public import Idealize.ShloMosaic.Lib.Pipeline.Value
public import Idealize.ShloMosaic.Lib.Pipeline.ValueKit.Tiles

@[expose] public section

noncomputable section

namespace Cert.Weights

open Idealize.ShloMosaic Idealize.ShloMosaic.ValueIdx

/-- The four-bit number of byte `b` for a row of parity `p` (low bits for even rows, high bits for odd ones), less 8. -/
def code (b : BitVec 8) (p : ℕ) : ℤ := (if p = 0 then b.toNat % 16 else b.toNat / 16 : ℕ) - 8

/-- Row `k`, column `c` of the weight matrix: its four-bit number less 8, times the scale of its group of 128 rows. -/
def wt {C : ℕ} (w : IVec ⟨2, ![4608, C]⟩ 8) (s : FVec Ideal ⟨2, ![72, C]⟩ .bf16) (k : ℕ) (h : k < 9216) (c : Fin C) : EReal :=
  ((code (w (ix2 ⟨k / 2, by omega⟩ c)) (k % 2) : ℝ) : EReal) * s (ix2 ⟨k / 128, by omega⟩ c)

/-- Flipping bit 3 and reading the low four bits as a signed number subtracts 8 from them. -/
theorem code_low (b : BitVec 8) :
    ((IntOp.shrsi .vector (IntOp.shli .vector ((b ^^^ 136#8).setWidth 32) 28#32) 28#32).setWidth 4).toInt = code b 0 := by
  revert b; decide +kernel

/-- Flipping bit 7 and reading the high four bits as a signed number subtracts 8 from them. -/
theorem code_high (b : BitVec 8) :
    ((IntOp.shrsi .vector (IntOp.shli .vector ((b ^^^ 136#8).setWidth 32) 24#32) 28#32).setWidth 4).toInt = code b 1 := by
  revert b; decide +kernel

end Cert.Weights

namespace Cert.KernelIdeal.Block

open Cert.KernelIdeal Cert.KernelIdeal.Gen Cert.Weights Idealize.ShloMosaic Idealize.ShloMosaic.ValueIdx

/-- Two stacks of 64 rows side by side, read on the first. -/
theorem interleave_even (x y : IVec S64x1x256 32) (i : Fin 64) (p : Fin 2) (c : Fin 256) (h : p.val = 0) :
    concatenate S64x2x256 1 [⟨S64x1x256, x⟩, ⟨S64x1x256, y⟩] concatenates_S64x1x256_S64x1x256_S64x2x256_d1 (ix3 i p c)
      = x (ix3 i 0 c) :=
  concatenate_pair_apply_left (t := S64x2x256) (s₁ := S64x1x256) (s₂ := S64x1x256) 1 x y
    concatenates_S64x1x256_S64x1x256_S64x2x256_d1 (ix3 i p c) rfl (ix3 i 0 c) fun b => by
      match b with | ⟨0, _⟩ => rfl | ⟨1, _⟩ => exact h.symm | ⟨2, _⟩ => rfl

/-- Two stacks of 64 rows side by side, read on the second. -/
theorem interleave_odd (x y : IVec S64x1x256 32) (i : Fin 64) (p : Fin 2) (c : Fin 256) (h : p.val = 1) :
    concatenate S64x2x256 1 [⟨S64x1x256, x⟩, ⟨S64x1x256, y⟩] concatenates_S64x1x256_S64x1x256_S64x2x256_d1 (ix3 i p c)
      = y (ix3 i 0 c) :=
  concatenate_pair_apply_right (t := S64x2x256) (s₁ := S64x1x256) (s₂ := S64x1x256) 1 x y
    concatenates_S64x1x256_S64x1x256_S64x2x256_d1 (ix3 i p c) rfl rfl (ix3 i 0 c)
    (fun b hb => by match b with | ⟨0, _⟩ => rfl | ⟨1, _⟩ => exact absurd rfl hb | ⟨2, _⟩ => rfl)
    (by show 0 + 1 = p.val; omega)

/-- One unpacked and scaled group of 128 rows, element by element. -/
theorem group_apply (p : Vec Ideal S64x256 .i8) (s : Vec Ideal S1x256 .bf16) (r : Fin 128) (c : Fin 256) :
    k0_pay5 p s (ix2 r c)
      = ((code (p (ix2 ⟨r.val / 2, by omega⟩ c)) (r.val % 2) : ℝ) : EReal) * s (ix2 0 c) := by
  have hs : broadcastTo S128x256 s broadcasts_S1x256_S128x256 (ix2 r c) = s (ix2 0 c) :=
    broadcastTo_apply _ _ _ _ fun a => by match a with | ⟨0, _⟩ => rfl | ⟨1, _⟩ => rfl
  have hc : ∀ (x : IVec S64x2x256 32), shapeCast S128x256 x shapeCasts_S64x2x256_S128x256 (ix2 r c)
      = x (ix3 ⟨r.val / 2, by omega⟩ ⟨r.val % 2, by omega⟩ c) := fun x => by
    refine shapeCast_apply _ _ _ _ ?_
    rw [Shape.rowMajor_val_three, Shape.rowMajor_val_two]
    show (r.val / 2 * 2 + r.val % 2) * 256 + c.val = r.val * 256 + c.val
    omega
  have h1 : ∀ (x : IVec S64x256 32) (i : Fin 64), shapeCast S64x1x256 x shapeCasts_S64x256_S64x1x256 (ix3 i 0 c) = x (ix2 i c) := fun x i => by
    refine shapeCast_apply _ _ _ _ ?_
    rw [Shape.rowMajor_val_three, Shape.rowMajor_val_two]
    show i.val * 256 + c.val = (i.val * 1 + 0) * 256 + c.val
    omega
  unfold k0_pay5
  rw [mulf_apply, hs]
  congr 1
  show (((trunci 4 (shapeCast S128x256 _ _) natLt_4_32 (ix2 r c)).toInt : ℝ) : EReal) = _
  show ((((shapeCast S128x256 _ _ (ix2 r c) : BitVec 32).setWidth 4).toInt : ℝ) : EReal) = _
  rw [hc]
  rcases Nat.mod_two_eq_zero_or_one r.val with h | h
  · rw [interleave_even _ _ _ _ _ h, h1, h]
    exact congrArg (fun z : ℤ => ((z : ℝ) : EReal)) (code_low (p (ix2 ⟨r.val / 2, by omega⟩ c)))
  · rw [interleave_odd _ _ _ _ _ h, h1, h]
    exact congrArg (fun z : ℤ => ((z : ℝ) : EReal)) (code_high (p (ix2 ⟨r.val / 2, by omega⟩ c)))

/-- Group `g`, unpacked from the block's rows `64 g …`, is rows `128 g …` of the block's weight matrix. -/
theorem group_eq (w : Vec Ideal S4608x256 .i8) (s : Vec Ideal S72x256 .bf16) (g : ℕ) (h : g < 72) (r : Fin 128) (c : Fin 256) :
    k0_pay5 (View.ld w (rW g h)) (View.ld s (rS g h)) (ix2 r c) = wt w s (128 * g + r.val) (by omega) c := by
  rw [group_apply]
  have e1 : View.ld w (rW g h) (ix2 ⟨r.val / 2, by omega⟩ c) = w (ix2 ⟨(128 * g + r.val) / 2, by omega⟩ c) := by
    rw [View.ld_apply]
    congr 1; funext a; apply Fin.ext
    match a with
    | ⟨0, _⟩ => show 64 * g + 1 * (r.val / 2) = (128 * g + r.val) / 2; omega
    | ⟨1, _⟩ => show 0 + 1 * c.val = c.val; omega
  have e2 : View.ld s (rS g h) (ix2 0 c) = s (ix2 ⟨(128 * g + r.val) / 128, by omega⟩ c) := by
    rw [View.ld_apply]
    congr 1; funext a; apply Fin.ext
    match a with
    | ⟨0, _⟩ => show g + 1 * 0 = (128 * g + r.val) / 128; omega
    | ⟨1, _⟩ => show 0 + 1 * c.val = c.val; omega
  unfold wt
  rw [e1, e2, show (128 * g + r.val) % 2 = r.val % 2 by omega]

/-- Step `n`'s 256 rows are rows `256 n …` of the block's weight matrix. -/
theorem pair_apply (w : Vec Ideal S4608x256 .i8) (s : Vec Ideal S72x256 .bf16) (n : ℕ) (h : n < 36) (j c : Fin 256) :
    pair w s n h (ix2 j c) = wt w s (256 * n + j.val) (by omega) c := by
  unfold pair
  by_cases hj : j.val < 128
  · refine (concatenate_pair_apply_left (t := S256x256) (s₁ := S128x256) (s₂ := S128x256) 0 _ _
      concatenates_S128x256_S128x256_S256x256_d0 (ix2 j c) rfl (ix2 (⟨j.val, hj⟩ : Fin 128) c) fun b => by
        match b with | ⟨0, _⟩ => rfl | ⟨1, _⟩ => rfl).trans ((group_eq w s _ _ _ c).trans ?_)
    congr 1
    show 128 * (2 * n) + j.val = _; omega
  · refine (concatenate_pair_apply_right (t := S256x256) (s₁ := S128x256) (s₂ := S128x256) 0 _ _
      concatenates_S128x256_S128x256_S256x256_d0 (ix2 j c) rfl rfl (ix2 (⟨j.val - 128, by omega⟩ : Fin 128) c)
      (fun b hb => by match b with | ⟨0, _⟩ => exact absurd rfl hb | ⟨1, _⟩ => rfl)
      (by show j.val - 128 + 128 = j.val; omega)).trans ((group_eq w s _ _ _ c).trans ?_)
    congr 1
    show 128 * (2 * n + 1) + (j.val - 128) = _; omega

/-- The `k`-th product of the row `r` of the activations and the column `c` of the weights (zero past the last). -/
def term {C : ℕ} (x : FVec Ideal ⟨2, ![192, 9216]⟩ .bf16) (w : IVec ⟨2, ![4608, C]⟩ 8) (s : FVec Ideal ⟨2, ![72, C]⟩ .bf16)
    (r : Fin 192) (c : Fin C) (k : ℕ) : EReal :=
  if h : k < 9216 then x (ix2 r ⟨k, h⟩) * wt w s k h c else 0

/-- After `n` steps an accumulator holds the first `256 n` products of each row and column. -/
theorem acc_apply (x : Vec Ideal S192x9216 .bf16) (w : Vec Ideal S4608x256 .i8) (s : Vec Ideal S72x256 .bf16)
    (r : Fin 192) (c : Fin 256) : ∀ (n : ℕ) (h : n ≤ 36),
      acc x w s n h (ix2 r c) = ∑ k ∈ Finset.range (256 * n), term x w s r c k
  | 0, _ => by
    show Ideal.ofBits .f32 0x00000000#32 = _
    rw [Ideal.ofBits_zero_f32]; rfl
  | n + 1, h => by
    have hx : ∀ j : Fin 256, View.ld x (rX n (by omega)) (ix2 r j) = x (ix2 r ⟨256 * n + j.val, by omega⟩) := fun j => by
      rw [View.ld_apply]
      congr 1; funext a; apply Fin.ext
      match a with
      | ⟨0, _⟩ => show 0 + 1 * r.val = r.val; omega
      | ⟨1, _⟩ => show 256 * n + 1 * j.val = 256 * n + j.val; omega
    rw [Nat.mul_succ, Finset.sum_range_add, ← acc_apply x w s r c n (by omega), Finset.sum_range]
    show step _ _ _ _ = _
    unfold step
    rw [addf_apply, shapeCast_self]
    congr 1
    refine (Ideal.matmul_plain_apply none _ _ _ r c).trans ?_
    show Ideal.ofBits .f32 0x00000000#32 + _ = _
    rw [Ideal.ofBits_zero_f32, zero_add]
    refine Finset.sum_congr rfl fun j _ => ?_
    rw [hx, pair_apply, term, dif_pos (by omega)]

end Cert.KernelIdeal.Block

end
-- ==== Proof.Array.lean ====
/-
  What the kernel's result array holds after the run, index by index.

  Grid point `t` computes columns `256 t … 256 t + 255` of the result from the same columns of the weights and of the
  scales, so the nine blocks are the blocks of one function of the argument arrays, `hidden`.
-/
module

public import proofs.«01_k».proof.Proof.Weights
public import proofs.«01_k».proof.Proof.Gen.KernelIdeal.Value
public import Idealize.ShloMosaic.Lib.Claim

@[expose] public section

noncomputable section

namespace Cert.Weights

open Idealize.ShloMosaic Idealize.ShloMosaic.ValueIdx Cert.KernelIdeal.Block

/-- One projection: row `r` of the activations times column `c` of the weight matrix. -/
def proj {C : ℕ} (x : FVec Ideal ⟨2, ![192, 9216]⟩ .bf16) (w : IVec ⟨2, ![4608, C]⟩ 8) (s : FVec Ideal ⟨2, ![72, C]⟩ .bf16)
    (r : Fin 192) (c : Fin C) : EReal :=
  ∑ k ∈ Finset.range 9216, term x w s r c k

/-- `silu g * u`. -/
def swish (g u : EReal) : EReal := g * Ideal.logistic g * u

/-- The gated projection: `silu` of the gate's projection times the up projection. -/
def hidden {C : ℕ} (x : FVec Ideal ⟨2, ![192, 9216]⟩ .bf16) (wg : IVec ⟨2, ![4608, C]⟩ 8) (sg : FVec Ideal ⟨2, ![72, C]⟩ .bf16)
    (wu : IVec ⟨2, ![4608, C]⟩ 8) (su : FVec Ideal ⟨2, ![72, C]⟩ .bf16) : FVec Ideal ⟨2, ![192, C]⟩ .bf16 :=
  fun i => swish (proj x wg sg (i 0) (i 1)) (proj x wu su (i 0) (i 1))

/-- A projection of some of the columns is those columns of the projection. -/
theorem proj_congr {C D : ℕ} {x y : FVec Ideal ⟨2, ![192, 9216]⟩ .bf16} {w : IVec ⟨2, ![4608, C]⟩ 8}
    {s : FVec Ideal ⟨2, ![72, C]⟩ .bf16} {w' : IVec ⟨2, ![4608, D]⟩ 8} {s' : FVec Ideal ⟨2, ![72, D]⟩ .bf16}
    (r : Fin 192) (c : Fin C) (d : Fin D) (hx : x = y) (hw : ∀ k, w (ix2 k c) = w' (ix2 k d))
    (hs : ∀ k, s (ix2 k c) = s' (ix2 k d)) : proj x w s r c = proj y w' s' r d := by
  subst hx
  refine Finset.sum_congr rfl fun k _ => ?_
  unfold term wt
  simp only [hw, hs]

end Cert.Weights

namespace Cert.KernelIdeal.Block

open Cert.KernelIdeal Cert.KernelIdeal.Gen Cert.Weights Idealize.ShloMosaic Idealize.ShloMosaic.ValueIdx
open Idealize.ShloMosaic.TcCoe Idealize.SL.Sem
open Idealize.ShloMosaic.Pipeline (Dat)

/-- The body's store starts at the block's origin. -/
theorem hz : (![0, 0] : Fin 2 → Nat) = fun _ => 0 := funext fun a => by fin_cases a <;> rfl

/-- What the body leaves in its result block is the gated projection of its input blocks. -/
theorem out_value (x : Vec Ideal S192x9216 .bf16) (wg : Vec Ideal S4608x256 .i8) (sg : Vec Ideal S72x256 .bf16)
    (wu : Vec Ideal S4608x256 .i8) (su : Vec Ideal S72x256 .bf16) :
    out0_5 x wg sg wu su = hidden x wg sg wu su := by
  rw [out_eq, View.canon_unit_zero hz]
  funext i
  obtain ⟨r, c, rfl⟩ : ∃ (r : Fin 192) (c : Fin 256), i = ix2 r c := ⟨i 0, i 1, eq_ix2 i⟩
  show swish (acc x wg sg 36 le_rfl (ix2 r c)) (acc x wu su 36 le_rfl (ix2 r c)) = _
  rw [acc_apply, acc_apply]
  rfl

variable (m : (ℓ : Loc nD τ sig) → Buf (Elt Ideal) ℓ) (ρ : Dev nD → PrngReg)

/-- The activations as the kernel is given them: the argument, its axis of extent one dropped. -/
abbrev acts (c : Dev nD) : FVec Ideal ⟨2, ![192, 9216]⟩ .bf16 :=
  shapeCast S192x9216 (m ((c : Thread nD τ).loc main_arg0)) shapeCasts_S192x1x9216_S192x9216

/-- The result array: the gated projection of the arguments. -/
abbrev result (c : Dev nD) : Buf (Elt Ideal) ((c : Thread nD τ).loc main_v1) :=
  hidden (acts m c) (m ((c : Thread nD τ).loc main_arg1)) (m ((c : Thread nD τ).loc main_arg2))
    (m ((c : Thread nD τ).loc main_arg3)) (m ((c : Thread nD τ).loc main_arg4))

/-- What the kernel finds in its first operand. -/
theorem V_main_v0 (c : Dev nD) : V m c main_v0 = acts m c := by
  entry_read
  rfl

/-- Which block each window shows at grid point `t`: all of the activations, and block column `t` of the rest. -/
theorem index_eq : ∀ t : Fin cfg0.N, (win0_0.index t 0 = 0 ∧ win0_0.index t 1 = 0)
    ∧ (win0_1.index t 0 = 0 ∧ win0_1.index t 1 = t.val) ∧ (win0_2.index t 0 = 0 ∧ win0_2.index t 1 = t.val)
    ∧ (win0_3.index t 0 = 0 ∧ win0_3.index t 1 = t.val) ∧ (win0_4.index t 0 = 0 ∧ win0_4.index t 1 = t.val)
    ∧ (win0_5.index t 0 = 0 ∧ win0_5.index t 1 = t.val) :=
  (by decide +kernel : ∀ t : Fin grid0.N, (win0_0.index t 0 = 0 ∧ win0_0.index t 1 = 0)
    ∧ (win0_1.index t 0 = 0 ∧ win0_1.index t 1 = t.val) ∧ (win0_2.index t 0 = 0 ∧ win0_2.index t 1 = t.val)
    ∧ (win0_3.index t 0 = 0 ∧ win0_3.index t 1 = t.val) ∧ (win0_4.index t 0 = 0 ∧ win0_4.index t 1 = t.val)
    ∧ (win0_5.index t 0 = 0 ∧ win0_5.index t 1 = t.val))

/-- The grid has nine points, so column `c` of block `t` is a column of the array. -/
theorem col_lt (t : Fin cfg0.N) (c : Fin 256) : 256 * t.val + c.val < 2304 := by
  have hN : cfg0.N = 9 := N_0
  have := t.isLt; omega

/-- The activations' block is all of them. -/
theorem blk0 (c : Dev nD) (t : Fin cfg0.N) : (iblk m c 0 t : Vec Ideal S192x9216 .bf16) = acts m c := by
  have hi := (index_eq t).1
  funext j
  unfold iblk
  rw [View.read_apply]
  show V m c main_v0 _ = _
  rw [V_main_v0]
  congr 1; funext a; apply Fin.ext
  match a with
  | ⟨0, _⟩ => show win0_0.index t 0 * 192 + 1 * (j 0).val = (j 0).val; rw [hi.1]; omega
  | ⟨1, _⟩ => show win0_0.index t 1 * 9216 + 1 * (j 1).val = (j 1).val; rw [hi.2]; omega

/-- The gate weights' block at `t` is their columns `256 t …`. -/
theorem blk1 (c : Dev nD) (t : Fin cfg0.N) (k : Fin 4608) (j : Fin 256) :
    (iblk m c 1 t : Vec Ideal S4608x256 .i8) (ix2 k j)
      = m ((c : Thread nD τ).loc main_arg1) (ix2 k ⟨256 * t.val + j.val, col_lt t j⟩) := by
  have hi := (index_eq t).2.1
  unfold iblk
  rw [View.read_apply]
  show V m c main_arg1 _ = _
  rw [V_main_arg1]
  congr 1; funext a; apply Fin.ext
  match a with
  | ⟨0, _⟩ => show win0_1.index t 0 * 4608 + 1 * k.val = k.val; rw [hi.1]; omega
  | ⟨1, _⟩ => show win0_1.index t 1 * 256 + 1 * j.val = 256 * t.val + j.val; rw [hi.2]; omega

/-- The gate scales' block at `t` is their columns `256 t …`. -/
theorem blk2 (c : Dev nD) (t : Fin cfg0.N) (k : Fin 72) (j : Fin 256) :
    (iblk m c 2 t : Vec Ideal S72x256 .bf16) (ix2 k j)
      = m ((c : Thread nD τ).loc main_arg2) (ix2 k ⟨256 * t.val + j.val, col_lt t j⟩) := by
  have hi := (index_eq t).2.2.1
  unfold iblk
  rw [View.read_apply]
  show V m c main_arg2 _ = _
  rw [V_main_arg2]
  congr 1; funext a; apply Fin.ext
  match a with
  | ⟨0, _⟩ => show win0_2.index t 0 * 72 + 1 * k.val = k.val; rw [hi.1]; omega
  | ⟨1, _⟩ => show win0_2.index t 1 * 256 + 1 * j.val = 256 * t.val + j.val; rw [hi.2]; omega

/-- The up weights' block at `t` is their columns `256 t …`. -/
theorem blk3 (c : Dev nD) (t : Fin cfg0.N) (k : Fin 4608) (j : Fin 256) :
    (iblk m c 3 t : Vec Ideal S4608x256 .i8) (ix2 k j)
      = m ((c : Thread nD τ).loc main_arg3) (ix2 k ⟨256 * t.val + j.val, col_lt t j⟩) := by
  have hi := (index_eq t).2.2.2.1
  unfold iblk
  rw [View.read_apply]
  show V m c main_arg3 _ = _
  rw [V_main_arg3]
  congr 1; funext a; apply Fin.ext
  match a with
  | ⟨0, _⟩ => show win0_3.index t 0 * 4608 + 1 * k.val = k.val; rw [hi.1]; omega
  | ⟨1, _⟩ => show win0_3.index t 1 * 256 + 1 * j.val = 256 * t.val + j.val; rw [hi.2]; omega

/-- The up scales' block at `t` is their columns `256 t …`. -/
theorem blk4 (c : Dev nD) (t : Fin cfg0.N) (k : Fin 72) (j : Fin 256) :
    (iblk m c 4 t : Vec Ideal S72x256 .bf16) (ix2 k j)
      = m ((c : Thread nD τ).loc main_arg4) (ix2 k ⟨256 * t.val + j.val, col_lt t j⟩) := by
  have hi := (index_eq t).2.2.2.2.1
  unfold iblk
  rw [View.read_apply]
  show V m c main_arg4 _ = _
  rw [V_main_arg4]
  congr 1; funext a; apply Fin.ext
  match a with
  | ⟨0, _⟩ => show win0_4.index t 0 * 72 + 1 * k.val = k.val; rw [hi.1]; omega
  | ⟨1, _⟩ => show win0_4.index t 1 * 256 + 1 * j.val = 256 * t.val + j.val; rw [hi.2]; omega

/-- What grid point `t` writes back is block `t` of the result. -/
theorem flushed_eq (c : Dev nD) (t : Fin cfg0.N) :
    (dats m 0 c).flushed 5 t = ((cfg0.win 5).blk t).view.read (Elt Ideal) (result m c) := by
  have hi := (index_eq t).2.2.2.2.2
  rw [Value.flushed5]
  funext j
  obtain ⟨r, d, rfl⟩ : ∃ (r : Fin 192) (d : Fin 256), j = ix2 r d := ⟨j 0, j 1, eq_ix2 j⟩
  rw [View.read_apply]
  show out0_5 (iblk m c 0 t) (iblk m c 1 t) (iblk m c 2 t) (iblk m c 3 t) (iblk m c 4 t) (ix2 r d) = _
  rw [out_value]
  refine Eq.trans ?_ (congrArg (result m c) (?_ : ix2 r ⟨256 * t.val + d.val, col_lt t d⟩ = _))
  · exact congrArg₂ swish
      (proj_congr r d _ (blk0 m c t) (fun k => blk1 m c t k d) (fun k => blk2 m c t k d))
      (proj_congr r d _ (blk0 m c t) (fun k => blk3 m c t k d) (fun k => blk4 m c t k d))
  · funext a; apply Fin.ext
    match a with
    | ⟨0, _⟩ => show r.val = win0_5.index t 0 * 192 + 1 * r.val; rw [hi.1]; omega
    | ⟨1, _⟩ => show 256 * t.val + d.val = win0_5.index t 1 * 256 + 1 * d.val; rw [hi.2]; omega

/-- Block `t` of the result array holds the indices whose column divided by 256 is `t`. -/
theorem mem_blk (t : Fin cfg0.N) (i : S192x2304.Idx) (h : (i 1).val / 256 = t.val) :
    i ∈ ((View.whole main_v1).slice (win0_5.rect t)).set := by
  have h0 : (i 0 : Nat) < 192 := (i 0).isLt
  have hi := (index_eq t).2.2.2.2.2
  rw [View.set_slice_whole, Rect.mem_set_unit]
  intro a
  match a with
  | ⟨0, _⟩ => show win0_5.index t 0 * 192 ≤ (i 0 : Nat) ∧ (i 0 : Nat) < win0_5.index t 0 * 192 + 192
              rw [hi.1]; omega
  | ⟨1, _⟩ => show win0_5.index t 1 * 256 ≤ (i 1 : Nat) ∧ (i 1 : Nat) < win0_5.index t 1 * 256 + 256
              rw [hi.2]; omega

/-- The result array after the run: every index lies in the block of some grid point. -/
theorem final (c : Dev nD) : (dats m 0 c).arrAt 5 cfg0.N = result m c :=
  (dats m 0 c).arrAt_eq_of_cover 5 (result m c) (fun t _ => flushed_eq m c t) fun (i : S192x2304.Idx) => by
    have h1 : (i 1 : Nat) < 2304 := (i 1).isLt
    have hN : cfg0.N = 9 := N_0
    exact ⟨⟨(i 1 : Nat) / 256, by omega⟩, flush0_5 _, mem_blk _ i rfl⟩

/-- The run, read: the result array holds the gated projection, the arguments are unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨((h c).1).trans (final m c), (h c).2⟩) (Value.run_blocks m ρ)

end Cert.KernelIdeal.Block

end
-- ==== Proof.Ref.lean ====
/-
  What the reference computes, index by index.

  The reference unpacks the whole weight matrix, even rows first and odd rows second, as an array [2, 4608, 2304];
  scales it 64 rows of each parity at a time; splits the activations' columns by parity in the same way; and contracts
  parity and row at once. Its result is the function `hidden` of `Array.lean`: the sum over parity and row is the
  sum over all 9216 rows in another order.
-/
module

public import proofs.«01_k».proof.Proof.Array
public import proofs.«01_k».proof.Proof.Gen.ReferenceIdeal.Run
public import Idealize.ShloMosaic.Lib.TwoAxisContraction
public import Idealize.ShloMosaic.Lib.IdealHost
public import Idealize.ShloMosaic.Lib.Quiescent

@[expose] public section

noncomputable section

namespace Cert.ReferenceIdeal.Block

open Cert.ReferenceIdeal Cert.ReferenceIdeal.Gen Cert.Weights Idealize.ShloMosaic Idealize.ShloMosaic.ValueIdx
open Idealize.ShloMosaic.TcCoe Idealize.SL.Sem
open Cert.KernelIdeal.Block (term)

/-- The low and high four bits of the packed weights, as words: [2, 4608, 2304]. -/
def nibbles (p : IVec S4608x2304 8) : IVec S2x4608x2304 32 :=
  concatenate S2x4608x2304 0 [⟨S1x4608x2304, (broadcastInDim S1x4608x2304 ![1, 2] bcast_S4608x2304_S1x4608x2304_1_2 (andi (extui 32 p natLt_8_32) (broadcastInDim S4608x2304 ![] bcast_S_S4608x2304 (constantI S_ 32 15#32))))⟩, ⟨S1x4608x2304, (broadcastInDim S1x4608x2304 ![1, 2] bcast_S4608x2304_S1x4608x2304_1_2 (Host.shrui (extui 32 p natLt_8_32) (broadcastInDim S4608x2304 ![] bcast_S_S4608x2304 (constantI S_ 32 4#32))))⟩] concatenates_S1x4608x2304_S1x4608x2304_S2x4608x2304_d0

/-- The scales, one per group of 64 rows of each parity: [2, 72, 64, 2304]. -/
def scales (s : FVec Ideal S72x2304 .bf16) : FVec Ideal S2x72x64x2304 .bf16 :=
  broadcastInDim S2x72x64x2304 ![0, 1, 2, 3] bcast_S1x72x1x2304_S2x72x64x2304_0_1_2_3 (broadcastInDim S1x72x1x2304 ![1, 3] bcast_S72x2304_S1x72x1x2304_1_3 s)

/-- The weight matrix, its rows by parity: [2, 4608, 2304]. -/
def weights (p : IVec S4608x2304 8) (s : FVec Ideal S72x2304 .bf16) : FVec Ideal S2x4608x2304 .bf16 :=
  shapeCast S2x4608x2304 (mulf (shapeCast S2x72x64x2304 (subf (uitofp .bf16 (nibbles p)) (broadcastInDim S2x4608x2304 ![] bcast_S_S2x4608x2304 (constant S_ .bf16 0x4100#16))) shapeCasts_S2x4608x2304_S2x72x64x2304) (scales s)) shapeCasts_S2x72x64x2304_S2x4608x2304

/-- The activations, their columns by parity: [192, 2, 4608]. -/
def acts (x : FVec Ideal S192x1x9216 .bf16) : FVec Ideal S192x2x4608 .bf16 :=
  transpose S192x2x4608 [0, 2, 1] (shapeCast S192x4608x2 x shapeCasts_S192x1x9216_S192x4608x2) transposes_S192x4608x2_S192x2x4608_0_2_1

/-- One projection, in the reference's operations. -/
def dot (x : FVec Ideal S192x1x9216 .bf16) (p : IVec S4608x2304 8) (s : FVec Ideal S72x2304 .bf16) : FVec Ideal S192x2304 .f32 :=
  Host.dotGeneral dot_S192x2x4608_S2x4608x2304_S192x2304_21_10_0_2_n_n none (acts x) (weights p s)

/-- The activations by parity, read at an index. -/
theorem acts_apply (x : FVec Ideal S192x1x9216 .bf16) (r : Fin 192) (q : Fin 2) (k : Fin 4608) :
    acts x (ix3 r q k) = shapeCast Cert.KernelIdeal.S192x9216 x Cert.KernelIdeal.Gen.facts.shapeCasts_S192x1x9216_S192x9216 (ix2 r ⟨2 * k.val + q.val, by omega⟩) := by
  unfold acts
  rw [transpose_apply (k := ix3 r k q) (hk := fun a => by match a with | ⟨0, _⟩ => rfl | ⟨1, _⟩ => rfl | ⟨2, _⟩ => rfl)]
  rw [shapeCast_apply (k := ix3 r 0 ⟨2 * k.val + q.val, by omega⟩), shapeCast_apply (k := ix3 r 0 ⟨2 * k.val + q.val, by omega⟩)]
  · rw [Shape.rowMajor_val_three, Shape.rowMajor_val_two]
    show (r.val * 1 + 0) * 9216 + (2 * k.val + q.val) = r.val * 9216 + (2 * k.val + q.val)
    omega
  · rw [Shape.rowMajor_val_three, Shape.rowMajor_val_three]
    show (r.val * 1 + 0) * 9216 + (2 * k.val + q.val) = (r.val * 4608 + k.val) * 2 + q.val
    omega

/-- The unsigned four-bit numbers, read at an index: `code` is the same number less 8. -/
theorem nibbles_apply (p : IVec S4608x2304 8) (q : Fin 2) (k : Fin 4608) (c : Fin 2304) :
    ((nibbles p (ix3 q k c)).toNat : ℤ) = code (p (ix2 k c)) q.val + 8 := by
  have hb : ∀ x : IVec S4608x2304 32, broadcastInDim S1x4608x2304 ![1, 2] bcast_S4608x2304_S1x4608x2304_1_2 x (ix3 0 k c)
      = x (ix2 k c) := fun x => broadcastInDim_apply _ _ _ _ _ fun a => by match a with | ⟨0, _⟩ => rfl | ⟨1, _⟩ => rfl
  have low : ∀ b : BitVec 8, (((b.setWidth 32 &&& 15#32 : BitVec 32).toNat : ℕ) : ℤ) = code b 0 + 8 := by decide +kernel
  have high : ∀ b : BitVec 8, ((IntOp.shrui .host (b.setWidth 32) 4#32).toNat : ℤ) = code b 1 + 8 := by decide +kernel
  unfold nibbles
  match q with
  | ⟨0, _⟩ =>
    rw [concatenate_pair_apply_left (t := S2x4608x2304) (s₁ := S1x4608x2304) (s₂ := S1x4608x2304) 0 _ _
      concatenates_S1x4608x2304_S1x4608x2304_S2x4608x2304_d0 _ rfl (ix3 0 k c) (fun b => by
        match b with | ⟨0, _⟩ => rfl | ⟨1, _⟩ => rfl | ⟨2, _⟩ => rfl), hb]
    exact low (p (ix2 k c))
  | ⟨1, _⟩ =>
    rw [concatenate_pair_apply_right (t := S2x4608x2304) (s₁ := S1x4608x2304) (s₂ := S1x4608x2304) 0 _ _
      concatenates_S1x4608x2304_S1x4608x2304_S2x4608x2304_d0 _ rfl rfl (ix3 0 k c) (fun b hb => by
        match b with | ⟨0, _⟩ => exact absurd rfl hb | ⟨1, _⟩ => rfl | ⟨2, _⟩ => rfl) rfl, hb]
    exact high (p (ix2 k c))

/-- The scales, read at an index. -/
theorem scales_apply (s : FVec Ideal S72x2304 .bf16) (q : Fin 2) (g : Fin 72) (r : Fin 64) (c : Fin 2304) :
    scales s (ix4 q g r c) = s (ix2 g c) := by
  unfold scales
  rw [broadcastInDim_apply (k := ix4 0 g 0 c)
      (hk := fun a => by match a with | ⟨0, _⟩ => rfl | ⟨1, _⟩ => rfl | ⟨2, _⟩ => rfl | ⟨3, _⟩ => rfl),
    broadcastInDim_apply (k := ix2 g c) (hk := fun a => by match a with | ⟨0, _⟩ => rfl | ⟨1, _⟩ => rfl)]

/-- The constant the reference subtracts is 8. -/
theorem eight : Ideal.ofBits .bf16 0x4100#16 = ((8 : ℝ) : EReal) := by
  simp [Ideal.ofBits, Ideal.ieee, -EReal.coe_mul]
  norm_num

/-- The reference's weights at parity `q` and row `k` are row `2 k + q` of the weight matrix. -/
theorem weights_apply (p : IVec S4608x2304 8) (s : FVec Ideal S72x2304 .bf16) (q : Fin 2) (k : Fin 4608) (c : Fin 2304) :
    weights p s (ix3 q k c) = wt p s (2 * k.val + q.val) (by omega) c := by
  unfold weights
  rw [shapeCast_apply (k := ix4 q (⟨k.val / 64, by omega⟩ : Fin 72) (⟨k.val % 64, by omega⟩ : Fin 64) c)]
  · rw [mulf_apply, scales_apply, shapeCast_apply (k := ix3 q k c)]
    · unfold wt
      have e1 : (⟨(2 * k.val + q.val) / 2, by omega⟩ : Fin 4608) = k := Fin.ext (by show (2 * k.val + q.val) / 2 = k.val; omega)
      have e2 : (⟨(2 * k.val + q.val) / 128, by omega⟩ : Fin 72) = ⟨k.val / 64, by omega⟩ :=
        Fin.ext (by show (2 * k.val + q.val) / 128 = k.val / 64; omega)
      rw [e1, e2, show (2 * k.val + q.val) % 2 = q.val by omega]
      congr 1
      show ((((nibbles p (ix3 q k c)).toNat : ℝ)) : EReal) - Ideal.ofBits .bf16 0x4100#16 = _
      rw [eight, ← EReal.coe_sub]
      congr 1
      have := nibbles_apply p q k c
      have h : (((nibbles p (ix3 q k c)).toNat : ℤ) : ℝ) = ((code (p (ix2 k c)) q.val + 8 : ℤ) : ℝ) := by rw [this]
      push_cast at h
      rw [h]; ring
    · rw [Shape.rowMajor_val_three, Shape.rowMajor_val_four]
      show (q.val * 4608 + k.val) * 2304 + c.val = ((q.val * 72 + k.val / 64) * 64 + k.val % 64) * 2304 + c.val
      omega
  · rw [Shape.rowMajor_val_three, Shape.rowMajor_val_four]
    show ((q.val * 72 + k.val / 64) * 64 + k.val % 64) * 2304 + c.val = (q.val * 4608 + k.val) * 2304 + c.val
    omega

/-- A sum over the first `2 n` numbers is the sum of the even ones and of the odd ones. -/
theorem sum_parity (f : ℕ → EReal) : ∀ n : ℕ, ∑ k ∈ Finset.range (2 * n), f k
    = ∑ k ∈ Finset.range n, (f (2 * k) + f (2 * k + 1))
  | 0 => rfl
  | n + 1 => by
    rw [Nat.mul_succ, Finset.sum_range_succ, Finset.sum_range_succ, Finset.sum_range_succ, sum_parity f n, add_assoc]

/-- A projection of the reference, read at an index: the sum over parity and row is the sum over all rows. -/
theorem dot_apply (x : FVec Ideal S192x1x9216 .bf16) (p : IVec S4608x2304 8) (s : FVec Ideal S72x2304 .bf16)
    (r : Fin 192) (c : Fin 2304) :
    dot x p s (ix2 r c) = proj (shapeCast Cert.KernelIdeal.S192x9216 x Cert.KernelIdeal.Gen.facts.shapeCasts_S192x1x9216_S192x9216) p s r c := by
  unfold dot proj Host.dotGeneral
  rw [Ideal.dotGeneral_apply, sum_contr2 _ 4608 2 rfl rfl rfl, sum_parity _ 4608, Finset.sum_range]
  refine Finset.sum_congr rfl fun k _ => ?_
  have e : ∀ q : Fin 2, term (shapeCast Cert.KernelIdeal.S192x9216 x Cert.KernelIdeal.Gen.facts.shapeCasts_S192x1x9216_S192x9216) p s r c (2 * k.val + q.val)
      = acts x (ix3 r q k) * weights p s (ix3 q k c) := fun q => by
    rw [acts_apply, weights_apply, term, dif_pos (by omega)]
  rw [Fin.sum_univ_two]
  refine congrArg₂ (· + ·) (Eq.trans ?_ (e 0).symm) (Eq.trans ?_ (e 1).symm)
  all_goals
    refine congrArg₂ (· * ·) (congrArg _ ?_) (congrArg _ ?_)
    all_goals
      funext a; apply Fin.ext
      match a with
      | ⟨0, _⟩ => first | rfl | exact contrEquiv2_symm_val0 _ 4608 2 rfl rfl rfl _ | exact contrEquiv2_symm_val1 _ 4608 2 rfl rfl rfl _
      | ⟨1, _⟩ => first | rfl | exact contrEquiv2_symm_val0 _ 4608 2 rfl rfl rfl _ | exact contrEquiv2_symm_val1 _ 4608 2 rfl rfl rfl _
      | ⟨2, _⟩ => first | rfl | exact contrEquiv2_symm_val0 _ 4608 2 rfl rfl rfl _ | exact contrEquiv2_symm_val1 _ 4608 2 rfl rfl rfl _

/-- The reference's `silu g * u`, element by element. -/
theorem act_apply (g u : FVec Ideal S192x2304 .f32) (i : S192x2304.Idx) :
    truncf .bf16 (mulf (mulf g (Host.divf (broadcastInDim S192x2304 ![] bcast_S_S192x2304 (constant S_ .f32 0x3F800000#32)) (addf (broadcastInDim S192x2304 ![] bcast_S_S192x2304 (constant S_ .f32 0x3F800000#32)) (Host.exp (Host.negf g))))) u) bitsLt_bf16_f32 i
      = swish (g i) (u i) := by
  show g i * Ideal.div (Ideal.ofBits .f32 0x3F800000#32) (Ideal.ofBits .f32 0x3F800000#32 + Ideal.exp (-(g i))) * u i = _
  rw [Ideal.ofBits_one_f32]
  rfl

variable (m : (ℓ : Loc nD τ sig) → Buf (Elt Ideal) ℓ) (ρ : Dev nD → PrngReg)

/-- The reference's run, read: the result is the gated projection of the arguments, and they are unchanged. -/
theorem run : θ_run defs (onTc (τ := τ) (main (F := Ideal))) ⟨m, fun _ => 0, ρ⟩ fun r => ∀ c : Dev nD,
      r.2.mem ((c.tc : Thread nD τ).loc main_v38)
        = hidden (shapeCast Cert.KernelIdeal.S192x9216 (m ((c.tc : Thread nD τ).loc main_arg0)) Cert.KernelIdeal.Gen.facts.shapeCasts_S192x1x9216_S192x9216)
            (m ((c.tc : Thread nD τ).loc main_arg1)) (m ((c.tc : Thread nD τ).loc main_arg2))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (by
    funext i
    obtain ⟨r, d, rfl⟩ : ∃ (r : Fin 192) (d : Fin 2304), i = ix2 r d := ⟨i 0, i 1, eq_ix2 i⟩
    exact (act_apply (dot _ _ _) (dot _ _ _) (ix2 r d)).trans (congrArg₂ swish (dot_apply _ _ _ r d) (dot_apply _ _ _ r d))), (h c).2⟩)
    (Value.run m ρ)

end Cert.ReferenceIdeal.Block

end
-- ==== Proof.lean ====
/-
  The certificate: the five claims about the kernel, its idealization and the reference.

  The two kernel frames are the generated ones; the reference declares no semaphore, so its frame is its run. The
  algebraic claim sets two runs side by side: the kernel's (Proof/Array.lean) and the reference's (Proof/Ref.lean) both
  end with the gated projection `hidden` of the arguments in the result array.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Array
public import proofs.«01_k».proof.Proof.Ref
public import Idealize.ShloMosaic.Adequacy
public import Idealize.ShloMosaic.Init
public import Idealize.ShloMosaic.Lib.Quiescent

@[expose] public section

noncomputable section

namespace Cert.Proof

open Idealize.ShloMosaic Idealize.SL.Sem

/-- The kernel, at bit patterns, terminates without fault, leaves its arguments alone and every semaphore at zero. -/
theorem frame_kernel : Cert.quiescent_Kernel := fun m ρ _ => Cert.Kernel.Gen.frame m ρ

/-- The same for its idealization, at extended reals. -/
theorem frame_ideal : Cert.quiescent_KernelIdeal := fun m ρ _ => Cert.KernelIdeal.Gen.frame m ρ

/-- The same for the reference, which declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The idealization rewrote no operation. -/
theorem preserves : Cert.preserves_Kernel_KernelIdeal := trivial

/-- Over the extended reals the kernel and the reference leave the same result array, given the same arguments. -/
theorem algebraic : Cert.algebraic_KernelIdeal_ReferenceIdeal := by
  intro m ρ m' ρ' _ hagree
  refine ⟨_, Cert.KernelIdeal.Block.run m ρ, ?_⟩
  refine (θ_run Cert.ReferenceIdeal.defs _ _).mono
    (fun _ h c => ⟨(h c).1.trans ?_, (h c).2⟩) (Cert.ReferenceIdeal.Block.run m' ρ')
  obtain ⟨h0, h1, h2, h3, h4⟩ := hagree c
  rw [h0, h1, h2, h3, h4]

/-- Every claim of the certificate. -/
theorem claim : Cert.Claim := ⟨Cert.Kernel.Gen.facts, Cert.KernelIdeal.Gen.facts, Cert.ReferenceIdeal.Gen.facts,
  frame_kernel, frame_ideal, frame_reference, preserves, algebraic⟩

end Cert.Proof

end
